-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S2048x1024 : Shape := ⟨2, ![2048, 1024]⟩
abbrev S8x4096x1024 : Shape := ⟨3, ![8, 4096, 1024]⟩
abbrev S8x1024x2048 : Shape := ⟨3, ![8, 1024, 2048]⟩
abbrev S2048x2 : Shape := ⟨2, ![2048, 2]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S2048x1024 .f32) (main_arg1 : FVec F S8x4096x1024 .f32) (main_arg2 : FVec F S8x1024x2048 .f32) (main_arg3 : FVec F S2048x2 .f32) (main_arg4 : IVec S2048x2 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S2048x1024 : Shape := ⟨2, ![2048, 1024]⟩
abbrev S8x4096x1024 : Shape := ⟨3, ![8, 4096, 1024]⟩
abbrev S8x1024x2048 : Shape := ⟨3, ![8, 1024, 2048]⟩
abbrev S2048x2 : Shape := ⟨2, ![2048, 2]⟩
abbrev S4x4096x1024 : Shape := ⟨3, ![4, 4096, 1024]⟩
abbrev S4x1024x2048 : Shape := ⟨3, ![4, 1024, 2048]⟩
abbrev S1x1024x1024 : Shape := ⟨3, ![1, 1024, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S8x4096x1024, .f32⟩
  | .hbm, ⟨2, _⟩ => ⟨S8x1024x2048, .f32⟩
  | .hbm, ⟨3, _⟩ => ⟨S2048x2, .f32⟩
  | .hbm, ⟨4, _⟩ => ⟨S2048x2, .i32⟩
  | .hbm, ⟨5, _⟩ => ⟨S2048x1024, .bf16⟩
  | .hbm, ⟨6, _⟩ => ⟨S4x4096x1024, .f32⟩
  | .hbm, ⟨7, _⟩ => ⟨S4x4096x1024, .bf16⟩
  | .hbm, ⟨8, _⟩ => ⟨S4x1024x2048, .f32⟩
  | .hbm, ⟨9, _⟩ => ⟨S4x1024x2048, .bf16⟩
  | .hbm, ⟨10, _⟩ => ⟨S2048x1024, .f32⟩
  | .local _ .vmem, ⟨0, _⟩ => ⟨S2048x2, .i32⟩
  | .local _ .vmem, ⟨1, _⟩ => ⟨S2048x2, .f32⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2048x1024 : Shape := ⟨2, ![2048, 1024]⟩
abbrev S8x4096x1024 : Shape := ⟨3, ![8, 4096, 1024]⟩
abbrev S8x1024x2048 : Shape := ⟨3, ![8, 1024, 2048]⟩
abbrev S2048x2 : Shape := ⟨2, ![2048, 2]⟩
abbrev S_ : Shape := ⟨0, ![]⟩
abbrev S4x4096x1024 : Shape := ⟨3, ![4, 4096, 1024]⟩
abbrev S4x1024x2048 : Shape := ⟨3, ![4, 1024, 2048]⟩
abbrev S4x2048x1024 : Shape := ⟨3, ![4, 2048, 1024]⟩
abbrev S2048x4x2048 : Shape := ⟨3, ![2048, 4, 2048]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S2048x2x1024 : Shape := ⟨3, ![2048, 2, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x4096x1024, .f32⟩
  | .hbm, ⟨2, _⟩ => ⟨S8x1024x2048, .f32⟩
  | .hbm, ⟨3, _⟩ => ⟨S2048x2, .f32⟩
  | .hbm, ⟨4, _⟩ => ⟨S2048x2, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S2048x2, .i32⟩
  | .hbm, ⟨12, _⟩ => ⟨S2048x2, .i32⟩
  | .hbm, ⟨13, _⟩ => ⟨S_, .i32⟩
  | .hbm, ⟨14, _⟩ => ⟨S2048x2, .i32⟩
  | .hbm, ⟨15, _⟩ => ⟨S2048x2, .i1⟩
  | .hbm, ⟨16, _⟩ => ⟨S_, .i32⟩
  | .hbm, ⟨17, _⟩ => ⟨S2048x2, .i32⟩
  | .hbm, ⟨18, _⟩ => ⟨S2048x2, .i1⟩
  | .hbm, ⟨19, _⟩ => ⟨S_, .i32⟩
  | .hbm, ⟨20, _⟩ => ⟨S_, .i1⟩
  | .hbm, ⟨21, _⟩ => ⟨S2048x2, .i1⟩
  | .hbm, ⟨22, _⟩ => ⟨S2048x2, .i1⟩
  | .hbm, ⟨23, _⟩ => ⟨S2048x2, .i1⟩
  | .hbm, ⟨24, _⟩ => ⟨S2048x2, .i32⟩
  | .hbm, ⟨25, _⟩ => ⟨S2048x2, .i32⟩
  | .hbm, ⟨26, _⟩ => ⟨S2048x2, .i32⟩
  | .hbm, ⟨27, _⟩ => ⟨S4x4096x1024, .f32⟩
  | .hbm, ⟨28, _⟩ => ⟨S4x1024x2048, .f32⟩
  | .hbm, ⟨29, _⟩ => ⟨S4x2048x1024, .f32⟩
  | .hbm, ⟨30, _⟩ => ⟨S4x2048x1024, .f32⟩
  | .hbm, ⟨31, _⟩ => ⟨S4x1024x2048, .f32⟩
  | .hbm, ⟨32, _⟩ => ⟨S2048x4x2048, .f32⟩
  | .hbm, ⟨33, _⟩ => ⟨S4x1024x2048, .f32⟩
  | .hbm, ⟨34, _⟩ => ⟨S2048x4x2048, .f32⟩
  | .hbm, ⟨35, _⟩ => ⟨S2048x4x2048, .f32⟩
  | .hbm, ⟨36, _⟩ => ⟨S2048x4x2048, .f32⟩
  | .hbm, ⟨37, _⟩ => ⟨S_, .f32⟩
  | .hbm, ⟨38, _⟩ => ⟨S2048x4x2048, .f32⟩
  | .hbm, ⟨39, _⟩ => ⟨S2048x4x2048, .f32⟩
  | .hbm, ⟨40, _⟩ => ⟨S_, .f32⟩
  | .hbm, ⟨41, _⟩ => ⟨S2048x4x2048, .f32⟩
  | .hbm, ⟨42, _⟩ => ⟨S2048x4x2048, .f32⟩
  | .hbm, ⟨43, _⟩ => ⟨S2048x4x2048, .f32⟩
  | .hbm, ⟨44, _⟩ => ⟨S2048x4x2048, .f32⟩
  | .hbm, ⟨45, _⟩ => ⟨S4x2048x1024, .f32⟩
  | .hbm, ⟨46, _⟩ => ⟨S4x2048x1024, .f32⟩
  | .hbm, ⟨47, _⟩ => ⟨S2048, .i32⟩
  | .hbm, ⟨48, _⟩ => ⟨S2048x1, .i32⟩
  | .hbm, ⟨49, _⟩ => ⟨S_, .i32⟩
  | .hbm, ⟨50, _⟩ => ⟨S2048x2, .i32⟩
  | .hbm, ⟨51, _⟩ => ⟨S2048x2, .i1⟩
  | .hbm, ⟨52, _⟩ => ⟨S_, .i32⟩
  | .hbm, ⟨53, _⟩ => ⟨S2048x2, .i32⟩
  | .hbm, ⟨54, _⟩ => ⟨S2048x2, .i32⟩
  | .hbm, ⟨55, _⟩ => ⟨S2048x2, .i32⟩
  | .hbm, ⟨56, _⟩ => ⟨S_, .i32⟩
  | .hbm, ⟨57, _⟩ => ⟨S2048x1, .i32⟩
  | .hbm, ⟨58, _⟩ => ⟨S2048x1, .i1⟩
  | .hbm, ⟨59, _⟩ => ⟨S_, .i32⟩
  | .hbm, ⟨60, _⟩ => ⟨S2048x1, .i32⟩
  | .hbm, ⟨61, _⟩ => ⟨S2048x1, .i32⟩
  | .hbm, ⟨62, _⟩ => ⟨S2048x1, .i32⟩
  | .hbm, ⟨63, _⟩ => ⟨S2048x2, .i32⟩
  | .hbm, ⟨64, _⟩ => ⟨S2048x2x1, .i32⟩
  | .hbm, ⟨65, _⟩ => ⟨S2048x2x1, .i32⟩
  | .hbm, ⟨66, _⟩ => ⟨S2048x2x2, .i32⟩
  | .hbm, ⟨67, _⟩ => ⟨S2048x2x1024, .f32⟩
  | .hbm, ⟨68, _⟩ => ⟨S2048x2x1, .f32⟩
  | .hbm, ⟨69, _⟩ => ⟨S2048x2x1024, .f32⟩
  | .hbm, ⟨70, _⟩ => ⟨S2048x2x1024, .f32⟩
  | .hbm, ⟨71, _⟩ => ⟨S_, .f32⟩
  | .hbm, ⟨72, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_0 : Ref sig .tc := ⟨.hbm, 49, rfl⟩
abbrev main_v15 : Ref sig .tc := ⟨.hbm, 50, rfl⟩
abbrev main_v16 : Ref sig .tc := ⟨.hbm, 51, rfl⟩
abbrev main_c_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_2 : Ref sig .tc := ⟨.hbm, 56, rfl⟩
abbrev main_v20 : Ref sig .tc := ⟨.hbm, 57, rfl⟩
abbrev main_v21 : Ref sig .tc := ⟨.hbm, 58, rfl⟩
abbrev main_c_3 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst : Ref sig .tc := ⟨.hbm, 71, rfl⟩
abbrev main_v33 : Ref sig .tc := ⟨.hbm, 72, rfl⟩

abbrev nD : Nat := 1
abbrev τ : Topo := Topo.v7x

variable {F : FTy → Type} [FloatOps F]
-- ==== Proof.Spec.lean ====
/-
  The mathematics of the expert layer, with no program in it: the id of an expert as a word, the gated activation as a
  sum over the hidden axis, the sum over experts and column blocks, the sum over the routing slots, and the
  equation of the two for finite arguments.
-/
module

public import Idealize.ShloMosaic.PureOps.Ideal
public import Idealize.ShloMosaic.Lib.ValueIdx

@[expose] public section

noncomputable section

open scoped BigOperators

namespace Cert.Moe

open Idealize.ShloMosaic Idealize.ShloMosaic.ValueIdx

/-! ## The expert of a routing word -/

/-- The remainder of a routing word by 4, rounded toward minus infinity: the signed remainder, with 4 added when it is
    negative. -/
def floorMod (v : BitVec 32) : BitVec 32 :=
  if (v.srem 4#32).slt 0#32 then v.srem 4#32 + 4#32 else v.srem 4#32

/-- The signed remainder by 4 lies strictly between -4 and 4. -/
theorem srem_bounds (v : BitVec 32) : -4 < (v.srem 4#32).toInt ∧ (v.srem 4#32).toInt < 4 := by
  rw [BitVec.toInt_srem, show (4#32 : BitVec 32).toInt = 4 from by decide]
  exact ⟨Int.lt_tmod_of_pos _ (by decide), Int.tmod_lt_of_pos _ (by decide)⟩

/-- The remainder names one of the four experts. -/
theorem floorMod_lt (v : BitVec 32) : (floorMod v).toNat < 4 := by
  have hb := srem_bounds v
  unfold floorMod
  generalize v.srem 4#32 = r at hb ⊢
  have hr := BitVec.toInt_eq_toNat_cond r
  have hlt := r.isLt
  by_cases h : r.slt 0#32
  · rw [if_pos h]
    have h' : r.toInt < 0 := by simpa [BitVec.slt] using h
    rw [BitVec.toNat_add, show (4#32 : BitVec 32).toNat = 4 from rfl]
    split at hr <;> omega
  · rw [if_neg h]
    have h' : ¬ r.toInt < 0 := by simpa [BitVec.slt] using h
    split at hr <;> omega

/-- The expert a routing word selects. -/
def expert (v : BitVec 32) : Fin 4 := ⟨(floorMod v).toNat, floorMod_lt v⟩

/-- The remainder equals the word of an expert's number exactly when that expert is selected. -/
theorem floorMod_eq_iff (v : BitVec 32) (e : Fin 4) : floorMod v = BitVec.ofNat 32 e.val ↔ expert v = e := by
  have he : (BitVec.ofNat 32 e.val).toNat = e.val := by
    rw [BitVec.toNat_ofNat]; exact Nat.mod_eq_of_lt (by have := e.isLt; omega)
  constructor
  · intro h
    apply Fin.ext
    show (floorMod v).toNat = e.val
    rw [h, he]
  · intro h
    apply BitVec.eq_of_toNat_eq
    rw [he, ← h]
    rfl

/-- The signed remainder by 4 never meets a corner of the division. -/
theorem remsi_four (u : ArithUnit) (v : BitVec 32) : IntOp.remsi u v 4#32 = v.srem 4#32 := by
  unfold IntOp.remsi
  rw [if_neg]
  rintro (h | ⟨_, h⟩)
  · exact absurd h (by decide)
  · exact absurd h (by decide)

/-- The remainder as the kernel writes it: 4 is added when the signs differ (an exclusive or) and the remainder is not
    zero. -/
theorem floorMod_xor (v : BitVec 32) :
    Scalar.select (IntOp.andi (IntOp.xori (IntOp.cmpi .slt (v.srem 4#32) 0#32) (IntOp.cmpi .slt 4#32 0#32))
      (IntOp.cmpi .ne (v.srem 4#32) 0#32)) (IntOp.addi (v.srem 4#32) 4#32) (v.srem 4#32) = floorMod v := by
  unfold floorMod
  generalize v.srem 4#32 = r
  by_cases h : r.slt 0#32
  · have hne : (r != 0#32) = true := bne_iff_ne.mpr (by rintro rfl; exact absurd h (by decide))
    rw [if_pos h]
    simp [Scalar.select, IntOp.andi, IntOp.xori, IntOp.cmpi, IntOp.addi, h, hne]
  · rw [if_neg h]
    simp [Scalar.select, IntOp.andi, IntOp.xori, IntOp.cmpi, IntOp.addi, h]

/-- The remainder as the reference writes it: the same, the signs compared for inequality. -/
theorem floorMod_ne (v : BitVec 32) :
    Scalar.select (IntOp.andi (IntOp.cmpi .ne (IntOp.cmpi .slt (v.srem 4#32) 0#32) (IntOp.cmpi .slt 4#32 0#32))
      (IntOp.cmpi .ne (v.srem 4#32) 0#32)) (IntOp.addi (v.srem 4#32) 4#32) (v.srem 4#32) = floorMod v := by
  unfold floorMod
  generalize v.srem 4#32 = r
  by_cases h : r.slt 0#32
  · have hne : (r != 0#32) = true := bne_iff_ne.mpr (by rintro rfl; exact absurd h (by decide))
    rw [if_pos h]
    simp [Scalar.select, IntOp.andi, IntOp.cmpi, IntOp.addi, h, hne]
  · rw [if_neg h]
    simp [Scalar.select, IntOp.andi, IntOp.cmpi, IntOp.addi, h]

/-- The remainder is never negative, so wrapping a negative index by 4 changes nothing. -/
theorem floorMod_wrap (v : BitVec 32) (x : BitVec 32) :
    Scalar.select (IntOp.cmpi .slt (floorMod v) 0#32) x (floorMod v) = floorMod v := by
  have hb := floorMod_lt v
  generalize floorMod v = r at hb ⊢
  have hr := BitVec.toInt_eq_toNat_cond r
  have h : ¬ r.slt 0#32 := by
    have : ¬ r.toInt < 0 := by split at hr <;> omega
    simpa [BitVec.slt] using this
  simp [Scalar.select, IntOp.cmpi, h]

/-! ## The layer -/

/-- The arrays of the layer. -/
abbrev Tokens := (⟨2, ![2048, 1024]⟩ : Shape).Idx → EReal
abbrev UpWeights := (⟨3, ![8, 4096, 1024]⟩ : Shape).Idx → EReal
abbrev DownWeights := (⟨3, ![8, 1024, 2048]⟩ : Shape).Idx → EReal
abbrev Routing := (⟨2, ![2048, 2]⟩ : Shape).Idx → EReal
abbrev RoutingIds := (⟨2, ![2048, 2]⟩ : Shape).Idx → BitVec 32

/-- An expert's number among the eight stored ones: only the first four are used. -/
abbrev stored (e : Fin 4) : Fin 8 := ⟨e.val, by omega⟩
/-- Column `j` of the gate is row `j` of an expert's up weights. -/
abbrev gateRow (j : Fin 2048) : Fin 4096 := ⟨j.val, by omega⟩
/-- Column `j` of the multiplier is row `2048 + j` of an expert's up weights. -/
abbrev mulRow (j : Fin 2048) : Fin 4096 := ⟨2048 + j.val, by omega⟩
/-- Column `k` of block `i` of 1024 columns. -/
abbrev blockCol (i : Fin 2) (k : Fin 1024) : Fin 2048 := ⟨1024 * i.val + k.val, by omega⟩

/-- The gate's argument: token `t` against row `j` of expert `e`. -/
def gate (x : Tokens) (w : UpWeights) (t : Fin 2048) (e : Fin 4) (j : Fin 2048) : EReal :=
  ∑ h : Fin 1024, x (ix2 t h) * w (ix3 (stored e) (gateRow j) h)

/-- The multiplier: token `t` against row `2048 + j` of expert `e`. -/
def mul (x : Tokens) (w : UpWeights) (t : Fin 2048) (e : Fin 4) (j : Fin 2048) : EReal :=
  ∑ h : Fin 1024, x (ix2 t h) * w (ix3 (stored e) (mulRow j) h)

/-- The total routing weight token `t` gives expert `e`: the weights of the slots that select it. -/
def coef (tw : Routing) (ids : RoutingIds) (t : Fin 2048) (e : Fin 4) : EReal :=
  ∑ k : Fin 2, if expert (ids (ix2 t k)) = e then tw (ix2 t k) else 0

/-- What expert `e`'s column block `i` adds to output `(t, d)`: the routing weight multiplies the activation before the
    down product. -/
def blockTerm (x : Tokens) (w : UpWeights) (w2 : DownWeights) (tw : Routing) (ids : RoutingIds)
    (e : Fin 4) (i : Fin 2) (t : Fin 2048) (d : Fin 1024) : EReal :=
  ∑ k : Fin 1024, (gate x w t e (blockCol i k) * Ideal.logistic (gate x w t e (blockCol i k)))
    * (mul x w t e (blockCol i k) * coef tw ids t e) * w2 (ix3 (stored e) d (blockCol i k))

/-- An expert's output for a token, with no routing weight. -/
def ffn (x : Tokens) (w : UpWeights) (w2 : DownWeights) (e : Fin 4) (t : Fin 2048) (d : Fin 1024) : EReal :=
  ∑ j : Fin 2048, (gate x w t e j * Ideal.logistic (gate x w t e j)) * mul x w t e j * w2 (ix3 (stored e) d j)

/-- The layer's output: over the two routing slots, the selected expert's output times the slot's weight. -/
def layer (x : Tokens) (w : UpWeights) (w2 : DownWeights) (tw : Routing) (ids : RoutingIds)
    (t : Fin 2048) (d : Fin 1024) : EReal :=
  ∑ k : Fin 2, ffn x w w2 (expert (ids (ix2 t k))) t d * tw (ix2 t k)

/-! ## Finite values -/

/-- A finite value: a real. -/
def Finite (x : EReal) : Prop := ∃ r : ℝ, x = (r : EReal)

theorem Finite.mul {x y : EReal} (hx : Finite x) (hy : Finite y) : Finite (x * y) := by
  obtain ⟨r, rfl⟩ := hx
  obtain ⟨s, rfl⟩ := hy
  exact ⟨r * s, (EReal.coe_mul r s).symm⟩

/-- The coercion of a finite sum of reals is the sum of the coercions. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem Finite.sum {ι : Type} (s : Finset ι) (f : ι → EReal) (h : ∀ i, Finite (f i)) : Finite (∑ i ∈ s, f i) := by
  choose g hg using h
  exact ⟨∑ i ∈ s, g i, by rw [coe_sum]; exact Finset.sum_congr rfl fun i _ => hg i⟩

theorem Finite.logistic {x : EReal} (hx : Finite x) : Finite (Ideal.logistic x) := by
  obtain ⟨r, rfl⟩ := hx
  exact ⟨_, Ideal.logistic_coe r⟩

/-- A sum over 2048 columns is the sum over two blocks of 1024. -/
theorem sum_blocks (f : Fin 2048 → ℝ) : ∑ j, f j = ∑ i : Fin 2, ∑ k : Fin 1024, f (blockCol i k) := by
  rw [← Fintype.sum_prod_type']
  symm
  refine Fintype.sum_equiv (finProdFinEquiv (m := 2) (n := 1024)) _ _ fun p => ?_
  refine congrArg f (Fin.ext ?_)
  show 1024 * p.1.val + p.2.val = p.2.val + 1024 * p.1.val
  omega

/-- The equation over the reals. `a e j` is the activation of column `j`, `m e j` its multiplier, `w e j` the down weight,
    `tw k` the weight of slot `k` and `ex k` the expert it selects. -/
theorem real_equation (a m w : Fin 4 → Fin 2048 → ℝ) (tw : Fin 2 → ℝ) (ex : Fin 2 → Fin 4) :
    ∑ e : Fin 4, ∑ i : Fin 2, ∑ k : Fin 1024, a e (blockCol i k)
        * (m e (blockCol i k) * ∑ s : Fin 2, if ex s = e then tw s else 0) * w e (blockCol i k)
      = ∑ s : Fin 2, (∑ j : Fin 2048, a (ex s) j * m (ex s) j * w (ex s) j) * tw s := by
  have hin : ∀ e : Fin 4, ∑ i : Fin 2, ∑ k : Fin 1024, a e (blockCol i k)
        * (m e (blockCol i k) * ∑ s : Fin 2, if ex s = e then tw s else 0) * w e (blockCol i k)
      = ∑ s : Fin 2, if ex s = e then (∑ j : Fin 2048, a e j * m e j * w e j) * tw s else 0 := by
    intro e
    rw [← sum_blocks fun j => a e j * (m e j * ∑ s : Fin 2, if ex s = e then tw s else 0) * w e j]
    have : ∀ j, a e j * (m e j * ∑ s : Fin 2, if ex s = e then tw s else 0) * w e j
        = (a e j * m e j * w e j) * ∑ s : Fin 2, if ex s = e then tw s else 0 := fun j => by ring
    rw [Finset.sum_congr rfl fun j _ => this j, ← Finset.sum_mul, Finset.mul_sum]
    exact Finset.sum_congr rfl fun s _ => by rw [mul_ite, mul_zero]
  rw [Finset.sum_congr rfl fun e _ => hin e, Finset.sum_comm]
  exact Finset.sum_congr rfl fun s _ => by rw [Finset.sum_ite_eq]; simp

/-- The same equation in the extended reals, every entry finite. -/
theorem finite_equation (a m w : Fin 4 → Fin 2048 → EReal) (tw : Fin 2 → EReal) (ex : Fin 2 → Fin 4)
    (ha : ∀ e j, Finite (a e j)) (hm : ∀ e j, Finite (m e j)) (hw : ∀ e j, Finite (w e j)) (ht : ∀ k, Finite (tw k)) :
    ∑ e : Fin 4, ∑ i : Fin 2, ∑ k : Fin 1024, a e (blockCol i k)
        * (m e (blockCol i k) * ∑ s : Fin 2, if ex s = e then tw s else 0) * w e (blockCol i k)
      = ∑ s : Fin 2, (∑ j : Fin 2048, a (ex s) j * m (ex s) j * w (ex s) j) * tw s := by
  choose a' ha using ha
  choose m' hm using hm
  choose w' hw using hw
  choose t' ht using ht
  have hite : ∀ e s, (if ex s = e then (t' s : EReal) else 0) = ((if ex s = e then t' s else 0 : ℝ) : EReal) := by
    intro e s
    split
    · rfl
    · exact EReal.coe_zero.symm
  simp only [ha, hm, hw, ht, hite, ← EReal.coe_mul, ← coe_sum]
  exact congrArg _ (real_equation a' m' w' t' ex)

/-- THE EQUATION: for finite arguments the sum over experts and column blocks is the layer's output. -/
theorem sum_blockTerm (x : Tokens) (w : UpWeights) (w2 : DownWeights) (tw : Routing) (ids : RoutingIds)
    (hx : ∀ i, Finite (x i)) (hw : ∀ i, Finite (w i)) (hw2 : ∀ i, Finite (w2 i)) (htw : ∀ i, Finite (tw i))
    (t : Fin 2048) (d : Fin 1024) :
    ∑ e : Fin 4, ∑ i : Fin 2, blockTerm x w w2 tw ids e i t d = layer x w w2 tw ids t d := by
  have hg : ∀ e j, Finite (gate x w t e j) := fun e j => Finite.sum _ _ fun h => (hx _).mul (hw _)
  have hm : ∀ e j, Finite (mul x w t e j) := fun e j => Finite.sum _ _ fun h => (hx _).mul (hw _)
  exact finite_equation (fun e j => gate x w t e j * Ideal.logistic (gate x w t e j)) (fun e j => mul x w t e j)
    (fun e j => w2 (ix3 (stored e) d j)) (fun k => tw (ix2 t k)) (fun k => expert (ids (ix2 t k)))
    (fun e j => (hg e j).mul (hg e j).logistic) hm (fun e j => hw2 _) (fun k => htw _)

/-- Eight numbered terms are the terms of four experts' two blocks, expert by expert. -/
theorem sum_range_eight (f : ℕ → EReal) (g : Fin 4 → Fin 2 → EReal)
    (h : ∀ (e : Fin 4) (i : Fin 2), f (2 * e.val + i.val) = g e i) :
    ∑ n ∈ Finset.range 8, f n = ∑ e : Fin 4, ∑ i : Fin 2, g e i := by
  simp only [Fin.sum_univ_four, Fin.sum_univ_two, ← h, Finset.sum_range_succ, Finset.sum_range_zero, zero_add]
  simp [add_assoc]

end Cert.Moe

end
-- ==== Proof.Precondition.lean ====
/-
  The precondition opened: when every float argument passes `|x| < ∞`, every entry of it is a real.
-/
module

public import proofs.«01_k».proof.Pre_all_finite
public import proofs.«01_k».proof.Proof.Spec
public import Idealize.ShloMosaic.Lib.ReduceAll
public import Idealize.ShloMosaic.Lib.WordCmp
public import Idealize.ShloMosaic.Lib.Affine

@[expose] public section

noncomputable section

namespace Cert.Pre_all_finite

open Idealize.ShloMosaic Cert.Moe

/-- The shape relations the predicate's operations take. -/
theorem facts : Facts where
  bcast_S_S2048x1024 := by decide
  reducesTo_S2048x1024_S_d0_1 := by decide
  h_S_ := by decide
  bcast_S_S8x4096x1024 := by decide
  reducesTo_S8x4096x1024_S_d0_1_2 := by decide
  bcast_S_S8x1024x2048 := by decide
  reducesTo_S8x1024x2048_S_d0_1_2 := by decide
  bcast_S_S2048x2 := by decide
  reducesTo_S2048x2_S_d0_1 := by decide

/-- The pattern of plus infinity denotes the top of the extended reals. -/
theorem ofBits_inf : Ideal.ofBits .f32 0x7F800000#32 = ⊤ := by
  simp [Ideal.ofBits, Ideal.ieee]

/-- An extended real whose absolute value is below the top is a real. -/
theorem finite_of_abs_lt {x : EReal} (h : max x (-x) < ⊤) : Finite x := by
  induction x using EReal.rec with
  | bot => simp at h
  | top => simp at h
  | coe r => exact ⟨r, rfl⟩

/-- A comparison `|x| < ∞` that holds makes `x` a real. -/
theorem finite_of_bit {x : EReal} (h : Ideal.cmp .olt (max x (-x)) (Ideal.ofBits .f32 0x7F800000#32) = 1#1) : Finite x := by
  rw [ofBits_inf] at h
  exact finite_of_abs_lt ((WordCmp.ofBool_decide_eq_one_iff _).mp h)

instance : Subsingleton S_.Idx := ⟨fun a b => funext fun i => i.elim0⟩

/-- The precondition: every entry of each float argument is a real. -/
theorem finite_of_fn [Facts] (x0 : FVec Ideal S2048x1024 .f32) (x1 : FVec Ideal S8x4096x1024 .f32)
    (x2 : FVec Ideal S8x1024x2048 .f32) (x3 : FVec Ideal S2048x2 .f32) (x4 : IVec S2048x2 32)
    (h : ∀ i, fn (F := Ideal) x0 x1 x2 x3 x4 i = 1#1) :
    (∀ i, Finite (x0 i)) ∧ (∀ i, Finite (x1 i)) ∧ (∀ i, Finite (x2 i)) ∧ (∀ i, Finite (x3 i)) := by
  have h := h (fun a => a.elim0)
  obtain ⟨h012, h3⟩ := IntOp.andi_eq_one.mp h
  obtain ⟨h01, h2⟩ := IntOp.andi_eq_one.mp h012
  obtain ⟨h0, h1⟩ := IntOp.andi_eq_one.mp h01
  exact ⟨fun i => finite_of_bit (Host.reduce_andi_all _ _ _ _ _ h0 i), fun i => finite_of_bit (Host.reduce_andi_all _ _ _ _ _ h1 i),
    fun i => finite_of_bit (Host.reduce_andi_all _ _ _ _ _ h2 i), fun i => finite_of_bit (Host.reduce_andi_all _ _ _ _ _ h3 i)⟩

end Cert.Pre_all_finite

end
-- ==== Proof.KernelOps.lean ====
/-
  What one grid point of the kernel computes, read at an index: the two up products, the choice of routing weights by
  expert, the summed weight, and the down product added to the accumulator.
-/
module

public import proofs.«01_k».proof.Proof.Gen.KernelIdeal.Value
public import proofs.«01_k».proof.Proof.Spec
public import Idealize.ShloMosaic.PureOps.Ideal.Laws
public import Idealize.ShloMosaic.Lib.WordCmp

@[expose] public section

noncomputable section

open scoped BigOperators

namespace Cert.KernelIdeal.Block

open Cert.KernelIdeal Cert.KernelIdeal.Gen Cert.Moe Idealize.ShloMosaic Idealize.ShloMosaic.ValueIdx

/-- Along its first axis, the left index of the product is the output's row. -/
theorem lhs_row (j : S2048x1024.Idx) (q : dot_S2048x1024_S1024x1024_S2048x1024_1_1_0_0_n_n.contr.Idx) : (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl

/-- Along its first axis, the right index of the product is the output's column. -/
theorem rhs_row (j : S2048x1024.Idx) (q : dot_S2048x1024_S1024x1024_S2048x1024_1_1_0_0_n_n.contr.Idx) : (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl

/-- The kernel's matrix product from zero contracts the last axes of both operands. -/
theorem product_apply {φ₁ φ₂ : FTy} (x : FVec Ideal S2048x1024 φ₁) (w : FVec Ideal S1024x1024 φ₂) (t : Fin 2048)
    (j : Fin 1024) :
    matmul dot_S2048x1024_S1024x1024_S2048x1024_1_1_0_0_n_n none x w (constant S2048x1024 .f32 0x00000000#32) (ix2 t j)
      = ∑ h : Fin 1024, x (ix2 t h) * w (ix2 j h) := by
  show FloatOps.matmul dot_S2048x1024_S1024x1024_S2048x1024_1_1_0_0_n_n none x w (constant S2048x1024 .f32 0x00000000#32) (ix2 t j) = _
  rw [Ideal.matmul_constant_zero_apply, ← Equiv.sum_comp (contrEquiv1 dot_S2048x1024_S1024x1024_S2048x1024_1_1_0_0_n_n 1024 rfl rfl).symm]
  refine Finset.sum_congr rfl fun h _ => ?_
  have hk := contrEquiv1_symm_val dot_S2048x1024_S1024x1024_S2048x1024_1_1_0_0_n_n 1024 rfl rfl h
  generalize (contrEquiv1 dot_S2048x1024_S1024x1024_S2048x1024_1_1_0_0_n_n 1024 rfl rfl).symm h = q at hk
  have el : dot_S2048x1024_S1024x1024_S2048x1024_1_1_0_0_n_n.lhsIdx (ix2 t j) q = ix2 t h := funext fun a => Fin.ext (by
    match a with
    | ⟨0, _⟩ => exact lhs_row _ _
    | ⟨1, _⟩ => exact (dot_S2048x1024_S1024x1024_S2048x1024_1_1_0_0_n_n.lhsIdx_val_of_single rfl _ _).trans hk)
  have er : dot_S2048x1024_S1024x1024_S2048x1024_1_1_0_0_n_n.rhsIdx (ix2 t j) q = ix2 j h := funext fun a => Fin.ext (by
    match a with
    | ⟨0, _⟩ => exact rhs_row _ _
    | ⟨1, _⟩ => exact (dot_S2048x1024_S1024x1024_S2048x1024_1_1_0_0_n_n.rhsIdx_val_of_single rfl _ _).trans hk)
  rw [el, er]

/-- A weight block without its leading unit axis. -/
theorem dropUnit_apply {α : Type} (w : S1x1024x1024.Idx → α) (j h : Fin 1024) :
    shapeCast S1024x1024 w shapeCasts_S1x1024x1024_S1024x1024 (ix2 j h) = w (ix3 0 j h) := by
  refine shapeCast_apply w _ _ _ ?_
  rw [Shape.rowMajor_val_three, Shape.rowMajor_val_two]
  show (0 * 1024 + j.val) * 1024 + h.val = j.val * 1024 + h.val
  omega

/-- The gate's product. -/
theorem gate_apply (x : Vec Ideal S2048x1024 .bf16) (w : Vec Ideal S1x1024x1024 .bf16) (t : Fin 2048) (j : Fin 1024) :
    k0_pay4 (F := Ideal) x w (ix2 t j) = ∑ h : Fin 1024, x (ix2 t h) * w (ix3 0 j h) := by
  unfold k0_pay4 k0_pay3
  refine (product_apply _ _ t j).trans (Finset.sum_congr rfl fun h _ => ?_)
  rw [shapeCast_self, dropUnit_apply]

/-- The multiplier's product. -/
theorem mul_apply (x : Vec Ideal S2048x1024 .bf16) (w : Vec Ideal S1x1024x1024 .bf16) (t : Fin 2048) (j : Fin 1024) :
    k0_pay5 (F := Ideal) x w (ix2 t j) = ∑ h : Fin 1024, x (ix2 t h) * w (ix3 0 j h) := by
  unfold k0_pay5 k0_pay3
  refine (product_apply _ _ t j).trans (Finset.sum_congr rfl fun h _ => ?_)
  rw [shapeCast_self, dropUnit_apply]

/-- The routing slots a grid point keeps: those whose word selects the point's expert. -/
theorem chosen_apply (i : grid0.Coords) (ids : Vec Ideal S2048x2 .i32) (t : Fin 2048) (k : Fin 2) (e : Fin 4)
    (he : (i 0).val = e.val) :
    k0_pay6 i ids (ix2 t k) = BitVec.ofBool (decide (expert (ids (ix2 t k)) = e)) := by
  have h := floorMod_xor (ids (ix2 t k))
  rw [← remsi_four .vector] at h
  have h' : k0_pay6 i ids (ix2 t k) = IntOp.cmpi .eq (floorMod (ids (ix2 t k))) (BitVec.ofNat 32 (i 0).val) := by
    rw [← h]; rfl
  rw [h', he, WordCmp.cmpi_eq_eq]
  simp only [floorMod_eq_iff]

/-- The reduced axis put back: slot `k` of token `t`. -/
theorem lift_slot (t : Fin 2048) (k : Fin 2) : reduces_S2048x2_S2048.lift (ix1 t) k = ix2 t k :=
  funext fun a => Fin.ext (by match a with | ⟨0, _⟩ => rfl | ⟨1, _⟩ => rfl)

/-- The summed weight as a column over the block: at every column, the sum over the slots of token `t`. -/
theorem weight_apply (v : FVec Ideal S2048x2 .f32) (t : Fin 2048) (j : Fin 1024) :
    broadcastTo S2048x1024 (shapeCast S2048x1 (multiReduction .add [1] S2048 v 0x00000000#32 reduces_S2048x2_S2048
      (.inl rfl) rfl) shapeCasts_S2048_S2048x1) broadcasts_S2048x1_S2048x1024 (ix2 t j) = ∑ k : Fin 2, v (ix2 t k) := by
  rw [broadcastTo_apply _ _ _ (ix2 t 0) (fun a => by match a with | ⟨0, _⟩ => rfl | ⟨1, _⟩ => rfl),
    shapeCast_apply _ _ _ (ix1 t) (by rw [Shape.rowMajor_val_one, Shape.rowMajor_val_two]; show t.val = t.val * 1 + 0; omega)]
  refine (Ideal.multiReduction_add_single v _ reduces_S2048x2_S2048 (.inl rfl) rfl (ix1 t)).trans ?_
  exact Finset.sum_congr rfl fun k _ => congrArg v (lift_slot t k)

/-- What a point stores: the accumulator plus the down product of the weighted activation. -/
theorem stored_apply (g : FVec Ideal S2048x1024 .bf16) (u : FVec Ideal S2048x1024 .f32) (tw : Vec Ideal S2048x2 .f32)
    (keep : IVec S2048x2 1) (acc : Vec Ideal S2048x1024 .f32) (w2 : Vec Ideal S1x1024x1024 .bf16) (t : Fin 2048)
    (d : Fin 1024) :
    k0_pay1 (F := Ideal) g u tw keep acc w2 (ix2 t d)
      = acc (ix2 t d) + ∑ j : Fin 1024, (g (ix2 t j) * Ideal.logistic (g (ix2 t j)))
          * (u (ix2 t j) * ∑ k : Fin 2, Scalar.select (keep (ix2 t k)) (tw (ix2 t k)) 0) * w2 (ix3 0 d j) := by
  unfold k0_pay1
  refine congrArg₂ (· + ·) (congrFun (shapeCast_self _ _) _) ?_
  refine (product_apply _ _ t d).trans (Finset.sum_congr rfl fun j _ => ?_)
  rw [dropUnit_apply]
  refine congrArg (fun s => (g (ix2 t j) * Ideal.logistic (g (ix2 t j))) * (u (ix2 t j) * s) * w2 (ix3 0 d j)) ?_
  refine (weight_apply _ t j).trans (Finset.sum_congr rfl fun k _ => ?_)
  exact congrArg (Scalar.select _ _) Ideal.ofBits_zero_f32

/-- The first point's accumulator is zero. -/
theorem zero_apply (i : S2048x1024.Idx) : k0_pay2 (F := Ideal) i = 0 := Ideal.ofBits_zero_f32

end Cert.KernelIdeal.Block

end
-- ==== Proof.KernelBlock.lean ====
/-
  The blocks a grid point reads, as entries of the arguments, and so what the point adds to the output: the term of its
  expert and column block.
-/
module

public import proofs.«01_k».proof.Proof.KernelOps
public import Idealize.ShloMosaic.Lib.Pipeline.Value

@[expose] public section

noncomputable section

open scoped BigOperators

namespace Cert.KernelIdeal.Block

open Cert.KernelIdeal Cert.KernelIdeal.Gen Cert.KernelIdeal.Value Cert.Moe Idealize.ShloMosaic
  Idealize.ShloMosaic.TcCoe Idealize.ShloMosaic.ValueIdx Idealize.SL.Sem

variable (m : (ℓ : Loc nD τ sig) → Buf (Elt Ideal) ℓ) (c : Dev nD)

/-! ## The arguments, and the arrays the region reads -/

/-- The tokens. -/
abbrev tokens : Tokens := m ((c : Thread nD τ).loc main_arg0)
/-- The gate and multiplier weights. -/
abbrev upWeights : UpWeights := m ((c : Thread nD τ).loc main_arg1)
/-- The down weights. -/
abbrev downWeights : DownWeights := m ((c : Thread nD τ).loc main_arg2)
/-- The routing weights. -/
abbrev routing : Routing := m ((c : Thread nD τ).loc main_arg3)
/-- The routing words. -/
abbrev routingIds : RoutingIds := m ((c : Thread nD τ).loc main_arg4)

/-- The converted tokens are the tokens. -/
theorem array_tokens (j : S2048x1024.Idx) : V m c main_v0 j = tokens m c j := by
  have h : V m c main_v0 = tokens m c := by
    dsimp only [V, hostOps0]; after_results; rfl
  rw [h]

/-- The converted slice of the gate and multiplier weights. -/
theorem array_up (e : Fin 4) (r : Fin 4096) (h : Fin 1024) :
    V m c main_v2 (ix3 e r h) = upWeights m c (ix3 (stored e) r h) := by
  have hV : V m c main_v2 = extractStridedSlice S4x4096x1024 ![0, 0, 0] (upWeights m c)
      slices_S8x4096x1024_S4x4096x1024_0_0_0 := by
    dsimp only [V, hostOps0]; after_results; rfl
  rw [hV]
  refine extractStridedSlice_apply _ _ _ _ _ (fun a => ?_)
  match a with
  | ⟨0, _⟩ => exact (Nat.zero_add _).symm
  | ⟨1, _⟩ => exact (Nat.zero_add _).symm
  | ⟨2, _⟩ => exact (Nat.zero_add _).symm

/-- The converted slice of the down weights. -/
theorem array_down (e : Fin 4) (d : Fin 1024) (j : Fin 2048) :
    V m c main_v4 (ix3 e d j) = downWeights m c (ix3 (stored e) d j) := by
  have hV : V m c main_v4 = extractStridedSlice S4x1024x2048 ![0, 0, 0] (downWeights m c)
      slices_S8x1024x2048_S4x1024x2048_0_0_0 := by
    dsimp only [V, hostOps0]; after_results; rfl
  rw [hV]
  refine extractStridedSlice_apply _ _ _ _ _ (fun a => ?_)
  match a with
  | ⟨0, _⟩ => exact (Nat.zero_add _).symm
  | ⟨1, _⟩ => exact (Nat.zero_add _).symm
  | ⟨2, _⟩ => exact (Nat.zero_add _).symm

/-! ## The blocks -/

/-- The grid point of expert `e` and column block `i`. -/
abbrev point (e : Fin 4) (i : Fin 2) : Fin cfg0.N := ⟨2 * e.val + i.val, lt_of_lt_of_eq (by omega) N_0.symm⟩

/-- Where the three weight windows lie, and the point's expert. -/
theorem point_facts : ∀ (e : Fin 4) (i : Fin 2),
    (grid0.coords (point e i) 0).val = e.val
    ∧ (win0_3.index (point e i) (0 : Fin 3) = e.val ∧ win0_3.index (point e i) (1 : Fin 3) = i.val
      ∧ win0_3.index (point e i) (2 : Fin 3) = 0)
    ∧ (win0_4.index (point e i) (0 : Fin 3) = e.val ∧ win0_4.index (point e i) (1 : Fin 3) = i.val + 2
      ∧ win0_4.index (point e i) (2 : Fin 3) = 0)
    ∧ (win0_5.index (point e i) (0 : Fin 3) = e.val ∧ win0_5.index (point e i) (1 : Fin 3) = 0
      ∧ win0_5.index (point e i) (2 : Fin 3) = i.val) := by
  decide +kernel

/-- The windows of the tokens, the routing weights and the routing words do not move. -/
theorem whole_facts : ∀ (e : Fin 4) (i : Fin 2) (a : Fin 2), win0_0.index (point e i) a = 0
    ∧ win0_1.index (point e i) a = 0 ∧ win0_2.index (point e i) a = 0 := by
  decide +kernel

/-- The block of routing words is the whole argument. -/
theorem block_ids (e : Fin 4) (i : Fin 2) (t : Fin 2048) (k : Fin 2) :
    (iblk m c 0 (point e i) : Vec Ideal S2048x2 .i32) (ix2 t k) = routingIds m c (ix2 t k) := by
  unfold iblk
  rw [View.read_apply]
  show V m c main_arg4 _ = _
  rw [V_main_arg4]
  refine congrArg (routingIds m c) (funext fun a => Fin.ext ?_)
  match a with
  | ⟨0, _⟩ =>
    show win0_0.index (point e i) (0 : Fin 2) * 2048 + 1 * t.val = t.val
    rw [(whole_facts e i 0).1]; omega
  | ⟨1, _⟩ =>
    show win0_0.index (point e i) (1 : Fin 2) * 2 + 1 * k.val = k.val
    rw [(whole_facts e i 1).1]; omega

/-- The block of routing weights is the whole argument. -/
theorem block_routing (e : Fin 4) (i : Fin 2) (t : Fin 2048) (k : Fin 2) :
    (iblk m c 1 (point e i) : Vec Ideal S2048x2 .f32) (ix2 t k) = routing m c (ix2 t k) := by
  unfold iblk
  rw [View.read_apply]
  show V m c main_arg3 _ = _
  rw [V_main_arg3]
  refine congrArg (routing m c) (funext fun a => Fin.ext ?_)
  match a with
  | ⟨0, _⟩ =>
    show win0_1.index (point e i) (0 : Fin 2) * 2048 + 1 * t.val = t.val
    rw [(whole_facts e i 0).2.1]; omega
  | ⟨1, _⟩ =>
    show win0_1.index (point e i) (1 : Fin 2) * 2 + 1 * k.val = k.val
    rw [(whole_facts e i 1).2.1]; omega

/-- The block of tokens is the whole argument. -/
theorem block_tokens (e : Fin 4) (i : Fin 2) (t : Fin 2048) (h : Fin 1024) :
    (iblk m c 2 (point e i) : Vec Ideal S2048x1024 .bf16) (ix2 t h) = tokens m c (ix2 t h) := by
  unfold iblk
  rw [View.read_apply]
  show V m c main_v0 _ = _
  rw [array_tokens]
  refine congrArg (tokens m c) (funext fun a => Fin.ext ?_)
  match a with
  | ⟨0, _⟩ =>
    show win0_2.index (point e i) (0 : Fin 2) * 2048 + 1 * t.val = t.val
    rw [(whole_facts e i 0).2.2]; omega
  | ⟨1, _⟩ =>
    show win0_2.index (point e i) (1 : Fin 2) * 1024 + 1 * h.val = h.val
    rw [(whole_facts e i 1).2.2]; omega

/-- The gate block: rows `1024 i ..` of expert `e`. -/
theorem block_gate (e : Fin 4) (i : Fin 2) (j h : Fin 1024) :
    (iblk m c 3 (point e i) : Vec Ideal S1x1024x1024 .bf16) (ix3 0 j h)
      = upWeights m c (ix3 (stored e) (gateRow (blockCol i j)) h) := by
  obtain ⟨_, ⟨h0, h1, h2⟩, _, _⟩ := point_facts e i
  rw [← array_up]
  unfold iblk
  rw [View.read_apply]
  show V m c main_v2 _ = _
  refine congrArg (V m c main_v2) (funext fun a => Fin.ext ?_)
  match a with
  | ⟨0, _⟩ =>
    show win0_3.index (point e i) (0 : Fin 3) * 1 + 1 * 0 = e.val
    omega
  | ⟨1, _⟩ =>
    show win0_3.index (point e i) (1 : Fin 3) * 1024 + 1 * j.val = 1024 * i.val + j.val
    omega
  | ⟨2, _⟩ =>
    show win0_3.index (point e i) (2 : Fin 3) * 1024 + 1 * h.val = h.val
    omega

/-- The multiplier block: rows `2048 + 1024 i ..` of expert `e`. -/
theorem block_mul (e : Fin 4) (i : Fin 2) (j h : Fin 1024) :
    (iblk m c 4 (point e i) : Vec Ideal S1x1024x1024 .bf16) (ix3 0 j h)
      = upWeights m c (ix3 (stored e) (mulRow (blockCol i j)) h) := by
  obtain ⟨_, _, ⟨h0, h1, h2⟩, _⟩ := point_facts e i
  rw [← array_up]
  unfold iblk
  rw [View.read_apply]
  show V m c main_v2 _ = _
  refine congrArg (V m c main_v2) (funext fun a => Fin.ext ?_)
  match a with
  | ⟨0, _⟩ =>
    show win0_4.index (point e i) (0 : Fin 3) * 1 + 1 * 0 = e.val
    omega
  | ⟨1, _⟩ =>
    show win0_4.index (point e i) (1 : Fin 3) * 1024 + 1 * j.val = 2048 + (1024 * i.val + j.val)
    omega
  | ⟨2, _⟩ =>
    show win0_4.index (point e i) (2 : Fin 3) * 1024 + 1 * h.val = h.val
    omega

/-- The down block: columns `1024 i ..` of expert `e`. -/
theorem block_down (e : Fin 4) (i : Fin 2) (d j : Fin 1024) :
    (iblk m c 5 (point e i) : Vec Ideal S1x1024x1024 .bf16) (ix3 0 d j)
      = downWeights m c (ix3 (stored e) d (blockCol i j)) := by
  obtain ⟨_, _, _, ⟨h0, h1, h2⟩⟩ := point_facts e i
  rw [← array_down]
  unfold iblk
  rw [View.read_apply]
  show V m c main_v4 _ = _
  refine congrArg (V m c main_v4) (funext fun a => Fin.ext ?_)
  match a with
  | ⟨0, _⟩ =>
    show win0_5.index (point e i) (0 : Fin 3) * 1 + 1 * 0 = e.val
    omega
  | ⟨1, _⟩ =>
    show win0_5.index (point e i) (1 : Fin 3) * 1024 + 1 * d.val = d.val
    omega
  | ⟨2, _⟩ =>
    show win0_5.index (point e i) (2 : Fin 3) * 1024 + 1 * j.val = 1024 * i.val + j.val
    omega

/-! ## What a point adds -/

/-- The term of expert `e` and column block `i` at the arguments. -/
abbrev term (e : Fin 4) (i : Fin 2) (t : Fin 2048) (d : Fin 1024) : EReal :=
  blockTerm (tokens m c) (upWeights m c) (downWeights m c) (routing m c) (routingIds m c) e i t d

/-- A point stores the accumulator plus its term. -/
theorem point_apply (e : Fin 4) (i : Fin 2) (acc : Vec Ideal S2048x1024 .f32) (t : Fin 2048) (d : Fin 1024) :
    k0_pay1 (F := Ideal) (k0_pay4 (iblk m c 2 (point e i)) (iblk m c 3 (point e i)))
      (k0_pay5 (iblk m c 2 (point e i)) (iblk m c 4 (point e i))) (iblk m c 1 (point e i))
      (k0_pay6 (grid0.coords (point e i)) (iblk m c 0 (point e i))) acc (iblk m c 5 (point e i)) (ix2 t d)
      = acc (ix2 t d) + term m c e i t d := by
  have hg : ∀ j : Fin 1024, k0_pay4 (F := Ideal) (iblk m c 2 (point e i)) (iblk m c 3 (point e i)) (ix2 t j)
      = gate (tokens m c) (upWeights m c) t e (blockCol i j) := fun j =>
    (gate_apply _ _ t j).trans (Finset.sum_congr rfl fun h _ => by rw [block_tokens, block_gate])
  have hu : ∀ j : Fin 1024, k0_pay5 (F := Ideal) (iblk m c 2 (point e i)) (iblk m c 4 (point e i)) (ix2 t j)
      = mul (tokens m c) (upWeights m c) t e (blockCol i j) := fun j =>
    (mul_apply _ _ t j).trans (Finset.sum_congr rfl fun h _ => by rw [block_tokens, block_mul])
  have hc : (∑ k : Fin 2, Scalar.select (α := EReal) (k0_pay6 (grid0.coords (point e i)) (iblk m c 0 (point e i)) (ix2 t k))
      ((iblk m c 1 (point e i) : Vec Ideal S2048x2 .f32) (ix2 t k)) 0)
      = coef (routing m c) (routingIds m c) t e :=
    Finset.sum_congr rfl fun k _ => by
      rw [chosen_apply _ _ t k e (point_facts e i).1, block_ids, block_routing]
      exact WordCmp.select_decide _ _ _
  refine (stored_apply _ _ _ _ _ _ t d).trans (congrArg (_ + ·) (Finset.sum_congr rfl fun j _ => ?_))
  rw [hg, hu, hc, block_down]

end Cert.KernelIdeal.Block

end
-- ==== Proof.KernelValue.lean ====
/-
  The array the kernel leaves: at every index, the sum over the experts and column blocks of the point's terms.
-/
module

public import proofs.«01_k».proof.Proof.KernelBlock

@[expose] public section

noncomputable section

open scoped BigOperators

namespace Cert.KernelIdeal.Block

open Cert.KernelIdeal Cert.KernelIdeal.Gen Cert.KernelIdeal.Value Cert.Moe Idealize.ShloMosaic
  Idealize.ShloMosaic.TcCoe Idealize.ShloMosaic.ValueIdx Idealize.SL.Sem

variable (m : (ℓ : Loc nD τ sig) → Buf (Elt Ideal) ℓ) (c : Dev nD)

/-- The term of grid point `n`, the experts outermost. -/
def termAt (n : ℕ) (j : S2048x1024.Idx) : EReal :=
  term m c ⟨n / 2 % 4, by omega⟩ ⟨n % 2, by omega⟩ (j 0) (j 1)

/-- Every grid point is the point of its expert and column block. -/
theorem point_eq (n : ℕ) (h : n < cfg0.N) :
    (⟨n, h⟩ : Fin cfg0.N) = point ⟨n / 2 % 4, by omega⟩ ⟨n % 2, by omega⟩ := by
  have h8 : n < 8 := lt_of_lt_of_eq h N_0
  refine Fin.ext ?_
  show n = 2 * (n / 2 % 4) + n % 2
  omega

/-- A later point adds its term to what the point before left. -/
theorem step_apply (n : ℕ) (h : n < cfg0.N) (acc : S2048x1024.Idx → EReal) (j : S2048x1024.Idx) :
    (step6 (F := Ideal) m c n h acc : S2048x1024.Idx → EReal) j = acc j + termAt m c n j := by
  unfold step6
  rw [point_eq n h]
  conv_lhs => rw [eq_ix2 j]
  exact (point_apply m c _ _ acc (j 0) (j 1)).trans (congrArg₂ (· + ·) (congrArg acc (eq_ix2 j).symm) rfl)

/-- The first point's contents: its term. -/
theorem reset_apply (n : ℕ) (h : n < cfg0.N) (j : S2048x1024.Idx) :
    (reset6 (F := Ideal) m c n h : S2048x1024.Idx → EReal) j = 0 + termAt m c n j := by
  unfold reset6
  rw [point_eq n h]
  conv_lhs => rw [eq_ix2 j]
  refine (point_apply m c _ _ _ (j 0) (j 1)).trans ?_
  rw [zero_apply]
  rfl

/-- The kernel's result at an index: the sum of all the points' terms. -/
theorem result_apply (t : Fin 2048) (d : Fin 1024) :
    (G6 (F := Ideal) m c : S2048x1024.Idx → EReal) (ix2 t d) = ∑ e : Fin 4, ∑ i : Fin 2, term m c e i t d := by
  have ht := t.isLt
  have hd := d.isLt
  have hrun : run6Of (ix2 t d) = 0 := by
    show 1 * (t.val / 2048 - 0) + 1 * (d.val / 1024 - 0) = 0
    omega
  have hloc : loc6Of (ix2 t d) = ix2 t d := funext fun a => Fin.ext (by
    match a with
    | ⟨0, _⟩ => exact Nat.mod_eq_of_lt ht
    | ⟨1, _⟩ => exact Nat.mod_eq_of_lt hd)
  have hN : 8 * run6Of (ix2 t d) + 7 < cfg0.N := lt_of_lt_of_eq (by omega) N_0.symm
  unfold G6
  rw [dif_pos hN, hloc]
  refine (Pipeline.accAt_add_apply (β := EReal) (reset6 (F := Ideal) m c) (step6 (F := Ideal) m c) (fun _ => 0) (termAt m c)
    (8 * run6Of (ix2 t d)) 7 (fun h j => reset_apply m c _ h j) (fun n h acc j _ _ => step_apply m c n h acc j) 7 le_rfl hN
    (ix2 t d)).trans ?_
  rw [hrun, zero_add]
  refine sum_range_eight _ _ fun e i => ?_
  show term m c ⟨(8 * 0 + (2 * e.val + i.val)) / 2 % 4, _⟩ ⟨(8 * 0 + (2 * e.val + i.val)) % 2, _⟩ t d = term m c e i t d
  have he : (⟨(8 * 0 + (2 * e.val + i.val)) / 2 % 4, by omega⟩ : Fin 4) = e := Fin.ext (by show _ / 2 % 4 = e.val; omega)
  have hi : (⟨(8 * 0 + (2 * e.val + i.val)) % 2, by omega⟩ : Fin 2) = i := Fin.ext (by show _ % 2 = i.val; omega)
  rw [he, hi]

end Cert.KernelIdeal.Block

end
-- ==== Proof.RefIds.lean ====
/-
  The words the reference indexes its experts' outputs with: the remainder of each routing word by 4, and the token's
  own number.
-/
module

public import proofs.«01_k».proof.Proof.Gen.ReferenceIdeal.Read
public import proofs.«01_k».proof.Proof.Spec
public import Idealize.ShloMosaic.Lib.WordCmp

@[expose] public section

noncomputable section

namespace Cert.ReferenceIdeal.Words

open Cert.ReferenceIdeal Cert.ReferenceIdeal.Gen Cert.ReferenceIdeal.Read Cert.Moe Idealize.ShloMosaic
  Idealize.ShloMosaic.ValueIdx

/-- The reference divides by 4: its guard against a zero divisor chooses 4. -/
theorem divisor (i : S_.Idx) : val_main_call0_v2 (F := Ideal) i = 4#32 := rfl

/-- The reference's remainder is the one rounded toward minus infinity. -/
theorem remainder (ids : RoutingIds) (i : S2048x2.Idx) : val_main_v0 (F := Ideal) ids i = floorMod (ids i) := by
  have hr : val_main_call0_v4 (F := Ideal) ids i = (ids i).srem 4#32 := by
    rw [val_main_call0_v4_apply, val_main_call0_v3_apply, divisor, remsi_four]
  rw [val_main_v0_apply, val_main_call0_v12_apply, val_main_call0_v14_apply, val_main_call0_v11_apply,
    val_main_call0_v6_apply, val_main_call0_v8_apply, hr, val_main_call0_v10_apply, val_main_call0_v9_apply,
    val_main_call0_v13_apply, val_main_call0_v5_apply, val_main_call0_v7_apply, divisor]
  exact floorMod_ne (ids i)

/-- Wrapping a negative index changes nothing: the index is the remainder. -/
theorem wrapped (ids : RoutingIds) (i : S2048x2.Idx) : val_main_v19 (F := Ideal) ids i = floorMod (ids i) := by
  rw [val_main_v19_apply, val_main_v16_apply, remainder, val_main_v15_apply]
  exact floorMod_wrap (ids i) _

/-- The first index word of slot `k` of token `t`. -/
theorem expertWord (ids : RoutingIds) (t : Fin 2048) (k : Fin 2) :
    val_main_v26 (F := Ideal) ids (ix3 t k 0) = floorMod (ids (ix2 t k)) := by
  rw [val_main_v26_apply, wrapped]
  refine congrArg (fun j => floorMod (ids j)) (funext fun a => ?_)
  match a with
  | ⟨0, _⟩ => rfl
  | ⟨1, _⟩ => rfl

/-- The second index word is the token's number. -/
theorem tokenWord (t : Fin 2048) (k : Fin 2) :
    val_main_v27 (F := Ideal) (ix3 t k 0) = BitVec.ofNat 32 t.val := by
  have h14 : ∀ i : S2048x1.Idx, val_main_v14 (F := Ideal) i = BitVec.ofNat 32 (i 0).val := fun i => by
    rw [val_main_v14_apply, val_main_v13_apply]
  rw [val_main_v27_apply, val_main_v25_apply, val_main_v24_apply, val_main_v21_apply, h14, val_main_v20_apply]
  show Scalar.select (IntOp.cmpi .slt (BitVec.ofNat 32 t.val) 0#32) _ (BitVec.ofNat 32 t.val) = _
  have ht := t.isLt
  have h : ¬ (BitVec.ofNat 32 t.val).slt 0#32 := by
    have := WordCmp.toInt_ofNat_of_lt (w := 32) (a := t.val) (by omega)
    simp only [BitVec.slt, this]
    simp
  simp [Scalar.select, IntOp.cmpi, h]

/-- The pair of index words of slot `k` of token `t`, first component. -/
theorem pair_expert (ids : RoutingIds) (t : Fin 2048) (k : Fin 2) :
    val_main_v28 (F := Ideal) ids (ix3 t k 0) = floorMod (ids (ix2 t k)) := by
  rw [← expertWord]
  unfold val_main_v28
  refine concatenate_pair_apply_left (t := S2048x2x2) (s₁ := S2048x2x1) (s₂ := S2048x2x1) 2 _ _ _ (ix3 t k 0) rfl (ix3 t k 0) (fun b => ?_)
  match b with
  | ⟨0, _⟩ => rfl
  | ⟨1, _⟩ => rfl
  | ⟨2, _⟩ => rfl

/-- The pair of index words of slot `k` of token `t`, second component. -/
theorem pair_token (ids : RoutingIds) (t : Fin 2048) (k : Fin 2) :
    val_main_v28 (F := Ideal) ids (ix3 t k 1) = BitVec.ofNat 32 t.val := by
  rw [← tokenWord t k]
  unfold val_main_v28
  refine concatenate_pair_apply_right (t := S2048x2x2) (s₁ := S2048x2x1) (s₂ := S2048x2x1) 2 _ _ _ (ix3 t k 1) rfl rfl (ix3 t k 0) (fun b hb => ?_) rfl
  match b with
  | ⟨0, _⟩ => rfl
  | ⟨1, _⟩ => rfl
  | ⟨2, _⟩ => exact absurd rfl hb

end Cert.ReferenceIdeal.Words

end
-- ==== Proof.RefValue.lean ====
/-
  What the reference returns, read at an index: every expert's output for every token, the rows the routing slots
  select, and their weighted sum.
-/
module

public import proofs.«01_k».proof.Proof.RefIds
public import Idealize.ShloMosaic.PureOps.Ideal.Laws

@[expose] public section

noncomputable section

open scoped BigOperators

namespace Cert.ReferenceIdeal.Layer

open Cert.ReferenceIdeal Cert.ReferenceIdeal.Gen Cert.ReferenceIdeal.Read Cert.ReferenceIdeal.Words Cert.Moe
  Idealize.ShloMosaic Idealize.ShloMosaic.ValueIdx

/-- Two indices of rank 3 are equal when their coordinates are. -/
theorem idx3_ext {d : Fin 3 → Nat} {i j : (⟨3, d⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-- Two indices of rank 2 are equal when their coordinates are. -/
theorem idx2_ext {d : Fin 2 → Nat} {i j : (⟨2, d⟩ : Shape).Idx} (h0 : (i 0).val = (j 0).val)
    (h1 : (i 1).val = (j 1).val) : i = j :=
  funext fun a => Fin.ext (by match a with | ⟨0, _⟩ => exact h0 | ⟨1, _⟩ => exact h1)

/-- The reference's gate product. -/
theorem gate_apply (x : Tokens) (w : UpWeights) (t : Fin 2048) (e : Fin 4) (j : Fin 2048) :
    val_main_v6 (F := Ideal) x w (ix3 t e j) = gate x w t e j := by
  rw [val_main_v6_apply]
  refine Finset.sum_congr rfl fun h _ => congrArg₂ (· * ·) (congrArg x (idx2_ext rfl rfl)) ?_
  rw [val_main_v5_apply, val_main_v3_apply, val_main_v1_apply]
  exact congrArg w (idx3_ext rfl rfl rfl)

/-- The reference's multiplier product. -/
theorem mul_apply (x : Tokens) (w : UpWeights) (t : Fin 2048) (e : Fin 4) (j : Fin 2048) :
    val_main_v8 (F := Ideal) x w (ix3 t e j) = mul x w t e j := by
  rw [val_main_v8_apply]
  refine Finset.sum_congr rfl fun h _ => congrArg₂ (· * ·) (congrArg x (idx2_ext rfl rfl)) ?_
  rw [val_main_v7_apply, val_main_v4_apply, val_main_v1_apply]
  exact congrArg w (idx3_ext rfl rfl rfl)

/-- The pattern of one denotes one. -/
theorem ofBits_one : Ideal.ofBits .f32 0x3F800000#32 = 1 := by
  simp [Ideal.ofBits, Ideal.ieee, -EReal.coe_mul]
  norm_num

/-- The reference's gated activation. -/
theorem activation_apply (x : Tokens) (w : UpWeights) (t : Fin 2048) (e : Fin 4) (j : Fin 2048) :
    val_main_v10 (F := Ideal) x w (ix3 t e j)
      = (gate x w t e j * Ideal.logistic (gate x w t e j)) * mul x w t e j := by
  rw [val_main_v10_apply, mul_apply]
  refine congrArg (· * _) ?_
  show val_main_v6 (F := Ideal) x w (ix3 t e j) * val_main_call1_v5 (F := Ideal) x w (ix3 t e j) = _
  have hs : val_main_call1_v5 (F := Ideal) x w (ix3 t e j)
      = Ideal.logistic (val_main_v6 (F := Ideal) x w (ix3 t e j)) := by
    show Ideal.div (Ideal.ofBits .f32 0x3F800000#32)
      (Ideal.ofBits .f32 0x3F800000#32 + Ideal.exp (-val_main_v6 (F := Ideal) x w (ix3 t e j))) = _
    rw [ofBits_one]
    rfl
  rw [hs, gate_apply]

/-- The reference's expert outputs. -/
theorem expert_apply (x : Tokens) (w : UpWeights) (w2 : DownWeights) (e : Fin 4) (t : Fin 2048) (d : Fin 1024) :
    val_main_v12 (F := Ideal) x w w2 (ix3 e t d) = ffn x w w2 e t d := by
  rw [val_main_v12_apply]
  refine Finset.sum_congr rfl fun j _ => congrArg₂ (· * ·) ?_ ?_
  · rw [← activation_apply]
    exact congrArg (val_main_v10 (F := Ideal) x w) (idx3_ext rfl rfl rfl)
  · rw [val_main_v11_apply, val_main_v2_apply]
    exact congrArg w2 (idx3_ext rfl rfl rfl)

/-- Component `n` of the pair of words that slot `k` of token `t` is gathered with. -/
theorem pair_index (y : S2048x2x1024.Idx) (n : Fin 2) (hn : n.val < gather_S4x2048x1024_S2048x2x2_S2048x2x1024_2_01_n_n_01_2_111024.startIndexMap.length) :
    gather_S4x2048x1024_S2048x2x2_S2048x2x1024_2_01_n_n_01_2_111024.siIdx y ⟨n.val, hn⟩ = ix3 (y 0) (y 1) n :=
  funext fun b => Fin.ext (by match b with | ⟨0, _⟩ => rfl | ⟨1, _⟩ => rfl | ⟨2, _⟩ => rfl)

/-- The gather reads its operand at the two words, each clamped into its axis, and at the result's last coordinate. -/
theorem gather_apply (y : S4x2048x1024.Idx → EReal) (words : IVec S2048x2x2 32) (t : Fin 2048) (k : Fin 2) (d : Fin 1024)
    (e : Fin 4) (t' : Fin 2048) (he : min (words (ix3 t k 0)).toInt.toNat 3 = e.val)
    (ht : min (words (ix3 t k 1)).toInt.toNat 2047 = t'.val) :
    Host.gather gather_S4x2048x1024_S2048x2x2_S2048x2x1024_2_01_n_n_01_2_111024 y words (ix3 t k d) = y (ix3 e t' d) := by
  unfold Host.gather
  refine congrArg y (idx3_ext ?_ ?_ ?_)
  · show gather_S4x2048x1024_S2048x2x2_S2048x2x1024_2_01_n_n_01_2_111024.start (ix3 t k d) words 0 + gather_S4x2048x1024_S2048x2x2_S2048x2x1024_2_01_n_n_01_2_111024.batchCoord (ix3 t k d) 0 + gather_S4x2048x1024_S2048x2x2_S2048x2x1024_2_01_n_n_01_2_111024.offCoord (ix3 t k d) 0 = e.val
    rw [GatherDims.batchCoord_eq_zero _ _ _ (fun h => by simp [gather_S4x2048x1024_S2048x2x2_S2048x2x1024_2_01_n_n_01_2_111024] at h),
      GatherDims.offCoord_eq_zero _ _ _ (fun h => ((GatherDims.mem_sKept _ _).mp h).1 (by decide)), Nat.add_zero, ← he]
    unfold GatherDims.start
    rw [dif_pos (show (0 : Fin 3) ∈ gather_S4x2048x1024_S2048x2x2_S2048x2x1024_2_01_n_n_01_2_111024.startIndexMap by decide)]
    exact congrArg (fun i => min (words i).toInt.toNat 3) (pair_index (ix3 t k d) 0 (by decide))
  · show gather_S4x2048x1024_S2048x2x2_S2048x2x1024_2_01_n_n_01_2_111024.start (ix3 t k d) words 1 + gather_S4x2048x1024_S2048x2x2_S2048x2x1024_2_01_n_n_01_2_111024.batchCoord (ix3 t k d) 1 + gather_S4x2048x1024_S2048x2x2_S2048x2x1024_2_01_n_n_01_2_111024.offCoord (ix3 t k d) 1 = t'.val
    rw [GatherDims.batchCoord_eq_zero _ _ _ (fun h => by simp [gather_S4x2048x1024_S2048x2x2_S2048x2x1024_2_01_n_n_01_2_111024] at h),
      GatherDims.offCoord_eq_zero _ _ _ (fun h => ((GatherDims.mem_sKept _ _).mp h).1 (by decide)), Nat.add_zero, ← ht]
    unfold GatherDims.start
    rw [dif_pos (show (1 : Fin 3) ∈ gather_S4x2048x1024_S2048x2x2_S2048x2x1024_2_01_n_n_01_2_111024.startIndexMap by decide)]
    exact congrArg (fun i => min (words i).toInt.toNat 2047) (pair_index (ix3 t k d) 1 (by decide))
  · show gather_S4x2048x1024_S2048x2x2_S2048x2x1024_2_01_n_n_01_2_111024.start (ix3 t k d) words 2 + gather_S4x2048x1024_S2048x2x2_S2048x2x1024_2_01_n_n_01_2_111024.batchCoord (ix3 t k d) 2 + gather_S4x2048x1024_S2048x2x2_S2048x2x1024_2_01_n_n_01_2_111024.offCoord (ix3 t k d) 2 = d.val
    rw [GatherDims.batchCoord_eq_zero _ _ _ (fun h => by simp [gather_S4x2048x1024_S2048x2x2_S2048x2x1024_2_01_n_n_01_2_111024] at h)]
    unfold GatherDims.start
    rw [dif_neg (show ¬(2 : Fin 3) ∈ gather_S4x2048x1024_S2048x2x2_S2048x2x1024_2_01_n_n_01_2_111024.startIndexMap by decide)]
    show 0 + 0 + gather_S4x2048x1024_S2048x2x2_S2048x2x1024_2_01_n_n_01_2_111024.offCoord (ix3 t k d) 2 = d.val
    rw [Nat.zero_add]
    rfl

/-- The rows the slots select: slot `k` of token `t` gets its expert's output for the token. -/
theorem selected_apply (x : Tokens) (w : UpWeights) (w2 : DownWeights) (ids : RoutingIds) (t : Fin 2048) (k : Fin 2)
    (d : Fin 1024) :
    val_main_v29 (F := Ideal) x w w2 ids (ix3 t k d) = ffn x w w2 (expert (ids (ix2 t k))) t d := by
  unfold val_main_v29
  rw [← expert_apply]
  refine gather_apply _ _ t k d (expert (ids (ix2 t k))) t ?_ ?_
  · rw [pair_expert, BitVec.toInt_eq_toNat_cond]
    have h := floorMod_lt (ids (ix2 t k))
    show _ = (floorMod (ids (ix2 t k))).toNat
    rw [if_pos (by omega)]
    omega
  · have ht := t.isLt
    rw [pair_token, WordCmp.toInt_ofNat_of_lt (by omega)]
    omega

/-- The reference's result is the layer. -/
theorem result_apply (x : Tokens) (w : UpWeights) (w2 : DownWeights) (tw : Routing) (ids : RoutingIds) (t : Fin 2048)
    (d : Fin 1024) : val_main_v33 (F := Ideal) x w w2 tw ids (ix2 t d) = layer x w w2 tw ids t d := by
  rw [val_main_v33_apply]
  have h0 : val_main_cst (F := Ideal) (Shape.Idx.first h_S_) = 0 := Ideal.ofBits_zero_f32
  rw [h0, zero_add]
  refine Finset.sum_congr rfl fun k _ => ?_
  rw [val_main_v32_apply]
  refine congrArg₂ (· * ·) ?_ ?_
  · rw [← selected_apply]
    exact congrArg (val_main_v29 (F := Ideal) x w w2 ids) (idx3_ext rfl rfl rfl)
  · rw [val_main_v31_apply, val_main_v30_apply]
    exact congrArg tw (idx2_ext rfl rfl)

end Cert.ReferenceIdeal.Layer

end
-- ==== Proof.lean ====
/-
  The proof of `Cert.Claim`: each program runs and returns, the arguments unchanged and the counters zero; the
  idealized kernel is the kernel's own text; and on finite arguments the idealized kernel and the idealized reference
  return the same array. The mathematics is in Proof/Spec.lean; Proof/KernelValue.lean and Proof/RefValue.lean read the
  two results at an index, and Proof/Precondition.lean opens the precondition.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Precondition
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem Cert.Moe

-- the statements name the facts of their programs; these are the generated proofs of them
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_all_finite.Facts := Cert.Pre_all_finite.facts

/-- The reference runs, leaves its arguments as they were, and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arguments, the reference's term and the kernel's array are equal. -/
theorem results_equal (m : (ℓ : Loc Cert.KernelIdeal.nD Cert.KernelIdeal.τ Cert.KernelIdeal.sig) → Buf (Elt Ideal) ℓ)
    (c : Dev Cert.KernelIdeal.nD) (h : Cert.Pre_KernelIdeal_all_finite m) :
    Cert.ReferenceIdeal.Read.val_main_v33 (F := Ideal) (KernelIdeal.Block.tokens m c) (KernelIdeal.Block.upWeights m c)
      (KernelIdeal.Block.downWeights m c) (KernelIdeal.Block.routing m c) (KernelIdeal.Block.routingIds m c)
      = Cert.KernelIdeal.Value.G6 (F := Ideal) m c := by
  obtain ⟨hx, hw, hw2, htw⟩ := Cert.Pre_all_finite.finite_of_fn _ _ _ _ _ (fun i => congrFun (h c) i)
  refine funext fun j => ?_
  have hj : j = ix2 (j 0) (j 1) := eq_ix2 j
  refine (congrArg _ hj).trans (Eq.trans ?_ (congrArg (Cert.KernelIdeal.Value.G6 (F := Ideal) m c) hj).symm)
  refine (ReferenceIdeal.Layer.result_apply _ _ _ _ _ (j 0) (j 1)).trans ?_
  exact (sum_blockTerm _ _ _ _ _ hx hw hw2 htw (j 0) (j 1)).symm.trans (KernelIdeal.Block.result_apply m c (j 0) (j 1)).symm

/-- On finite arguments, the kernel and the reference return the same array. -/
theorem algebraic : algebraic_KernelIdeal_ReferenceIdeal_pre_all_finite := by
  intro m ρ m' ρ' hfin hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq]
  simp only [hagree c]
  exact results_equal m c hfin

/-- Every claim. -/
theorem claim : Cert.Claim := ⟨Cert.Kernel.Gen.facts, Cert.KernelIdeal.Gen.facts, Cert.ReferenceIdeal.Gen.facts,
  Cert.Pre_all_finite.facts, fun m ρ _ => Cert.Kernel.Gen.frame m ρ, fun m ρ _ => Cert.KernelIdeal.Gen.frame m ρ,
  fun m ρ _ => Cert.KernelIdeal.Gen.frame m ρ, quiescent_ReferenceIdeal,
  fun m ρ _ => quiescent_ReferenceIdeal m ρ trivial, (trivial : preserves_Kernel_KernelIdeal), algebraic⟩

end Cert.Proof

end
